-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_unit [hPre_in_unit : Cert.Pre_in_unit.Facts] (m : (ℓ : Loc Cert.KernelIdeal.nD Cert.KernelIdeal.τ Cert.KernelIdeal.sig) → Buf (Elt Ideal) ℓ) : Prop :=
  ∀ c : Dev Cert.KernelIdeal.nD,
    (Cert.Pre_in_unit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_unit [hPre_in_unit : Cert.Pre_in_unit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_unit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_unit [hKernelIdeal : Cert.KernelIdeal.Facts] [hPre_in_unit : Cert.Pre_in_unit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_unit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_unit [hReferenceIdeal : Cert.ReferenceIdeal.Facts] [hPre_in_unit : Cert.Pre_in_unit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_unit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_unit [hKernelIdeal : Cert.KernelIdeal.Facts] [hReferenceIdeal : Cert.ReferenceIdeal.Facts] [hPre_in_unit : Cert.Pre_in_unit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_unit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_unit : Cert.Pre_in_unit.Facts),
    quiescent_Kernel (hKernel := hKernel)
    ∧ quiescent_KernelIdeal (hKernelIdeal := hKernelIdeal)
    ∧ quiescent_KernelIdeal_pre_in_unit (hKernelIdeal := hKernelIdeal) (hPre_in_unit := hPre_in_unit)
    ∧ quiescent_ReferenceIdeal (hReferenceIdeal := hReferenceIdeal)
    ∧ quiescent_ReferenceIdeal_pre_in_unit (hReferenceIdeal := hReferenceIdeal) (hPre_in_unit := hPre_in_unit)
    ∧ preserves_Kernel_KernelIdeal
    ∧ algebraic_KernelIdeal_ReferenceIdeal_pre_in_unit (hKernelIdeal := hKernelIdeal) (hReferenceIdeal := hReferenceIdeal) (hPre_in_unit := hPre_in_unit)
-- ==== Pre_in_unit.lean ====
abbrev S4096x200 : Shape := ⟨2, ![4096, 200]⟩
abbrev S21x64 : Shape := ⟨2, ![21, 64]⟩
abbrev S_ : Shape := ⟨0, ![]⟩

class Facts : Prop where
  bcast_S_S4096x200 : S_.BroadcastsInDim S4096x200 (![] : Fin 0 → Fin S4096x200.rank)

variable [Facts]

def fn {F : FTy → Type} [FloatOps F] (main_arg0 : FVec F S4096x200 .f32) (main_arg1 : FVec F S21x64 .f32) : IVec S4096x200 1 :=
  let main_cst : FVec F S_ .f32 := constant S_ .f32 0x00000000#32
  let main_v0 : FVec F S4096x200 .f32 := broadcastInDim S4096x200 ![] bcast_S_S4096x200 main_cst
  let main_v1 : IVec S4096x200 1 := cmpf .oge main_arg0 main_v0
  let main_cst_0 : FVec F S_ .f32 := constant S_ .f32 0x3F800000#32
  let main_v2 : FVec F S4096x200 .f32 := broadcastInDim S4096x200 ![] bcast_S_S4096x200 main_cst_0
  let main_v3 : IVec S4096x200 1 := cmpf .ole main_arg0 main_v2
  let main_v4 : IVec S4096x200 1 := andi main_v1 main_v3
  main_v4
-- ==== Kernel.lean ====
abbrev S4096x200 : Shape := ⟨2, ![4096, 200]⟩
abbrev S21x64 : Shape := ⟨2, ![21, 64]⟩
abbrev S_ : Shape := ⟨0, ![]⟩
abbrev S32x64 : Shape := ⟨2, ![32, 64]⟩
abbrev S1 : Shape := ⟨1, ![1]⟩
abbrev S4096x200x64 : Shape := ⟨3, ![4096, 200, 64]⟩
abbrev S32x200 : Shape := ⟨2, ![32, 200]⟩
abbrev S32x200x64 : Shape := ⟨3, ![32, 200, 64]⟩
abbrev S200x32 : Shape := ⟨2, ![200, 32]⟩
abbrev S200x1 : Shape := ⟨2, ![200, 1]⟩
abbrev S6400x32 : Shape := ⟨2, ![6400, 32]⟩
abbrev S6400x64 : Shape := ⟨2, ![6400, 64]⟩

abbrev nBuf : Space → Nat
  | .hbm => 8
  | .vmem => 5
  | .smem => 0
  | _ => 0

abbrev bufTy : (tb : Table) → Fin (tcTables nBuf tb) → BufTy
  | .hbm, ⟨0, _⟩ => ⟨S4096x200, .f32⟩
  | .hbm, ⟨1, _⟩ => ⟨S21x64, .f32⟩
  | .hbm, ⟨2, _⟩ => ⟨S_, .f32⟩
  | .hbm, ⟨3, _⟩ => ⟨S32x64, .f32⟩
  | .hbm, ⟨4, _⟩ => ⟨S_, .i32⟩
  | .hbm, ⟨5, _⟩ => ⟨S1, .i32⟩
  | .hbm, ⟨6, _⟩ => ⟨S32x64, .f32⟩
  | .hbm, ⟨7, _⟩ => ⟨S4096x200x64, .f32⟩
  | .local _ .vmem, ⟨0, _⟩ => ⟨S32x200, .f32⟩
  | .local _ .vmem, ⟨1, _⟩ => ⟨S32x200, .f32⟩
  | .local _ .vmem, ⟨2, _⟩ => ⟨S32x64, .f32⟩
  | .local _ .vmem, ⟨3, _⟩ => ⟨S32x200x64, .f32⟩
  | .local _ .vmem, ⟨4, _⟩ => ⟨S32x200x64, .f32⟩
  | _, _ => ⟨S4096x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4096x200 : Shape := ⟨2, ![4096, 200]⟩
abbrev S21x64 : Shape := ⟨2, ![21, 64]⟩
abbrev S_ : Shape := ⟨0, ![]⟩
abbrev S20 : Shape := ⟨1, ![20]⟩
abbrev S1 : Shape := ⟨1, ![1]⟩
abbrev S21 : Shape := ⟨1, ![21]⟩
abbrev S1x1x21 : Shape := ⟨3, ![1, 1, 21]⟩
abbrev S4096x200x1 : Shape := ⟨3, ![4096, 200, 1]⟩
abbrev S4096x200x21 : Shape := ⟨3, ![4096, 200, 21]⟩
abbrev S1x1x1 : Shape := ⟨3, ![1, 1, 1]⟩
abbrev S4096x200x64 : Shape := ⟨3, ![4096, 200, 64]⟩

abbrev nBuf : Space → Nat
  | .hbm => 120
  | .vmem => 0
  | .smem => 0
  | _ => 0

abbrev bufTy : (tb : Table) → Fin (tcTables nBuf tb) → BufTy
  | .hbm, ⟨0, _⟩ => ⟨S4096x200, .f32⟩
  | .hbm, ⟨1, _⟩ => ⟨S21x64, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S20, .f32⟩
  | .hbm, ⟨10, _⟩ => ⟨S_, .f32⟩
  | .hbm, ⟨11, _⟩ => ⟨S20, .f32⟩
  | .hbm, ⟨12, _⟩ => ⟨S20, .f32⟩
  | .hbm, ⟨13, _⟩ => ⟨S1, .f32⟩
  | .hbm, ⟨14, _⟩ => ⟨S_, .f32⟩
  | .hbm, ⟨15, _⟩ => ⟨S20, .f32⟩
  | .hbm, ⟨16, _⟩ => ⟨S20, .f32⟩
  | .hbm, ⟨17, _⟩ => ⟨S20, .f32⟩
  | .hbm, ⟨18, _⟩ => ⟨S20, .f32⟩
  | .hbm, ⟨19, _⟩ => ⟨S1, .f32⟩
  | .hbm, ⟨20, _⟩ => ⟨S20, .f32⟩
  | .hbm, ⟨21, _⟩ => ⟨S20, .f32⟩
  | .hbm, ⟨22, _⟩ => ⟨S20, .f32⟩
  | .hbm, ⟨23, _⟩ => ⟨S1, .f32⟩
  | .hbm, ⟨24, _⟩ => ⟨S21, .f32⟩
  | .hbm, ⟨25, _⟩ => ⟨S1x1x21, .f32⟩
  | .hbm, ⟨26, _⟩ => ⟨S4096x200x1, .f32⟩
  | .hbm, ⟨27, _⟩ => ⟨S4096x200x21, .f32⟩
  | .hbm, ⟨28, _⟩ => ⟨S4096x200x21, .f32⟩
  | .hbm, ⟨29, _⟩ => ⟨S4096x200x21, .i1⟩
  | .hbm, ⟨30, _⟩ => ⟨S4096x200x21, .i32⟩
  | .hbm, ⟨31, _⟩ => ⟨S_, .i32⟩
  | .hbm, ⟨32, _⟩ => ⟨S4096x200, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S4096x200, .i32⟩
  | .hbm, ⟨37, _⟩ => ⟨S4096x200, .i32⟩
  | .hbm, ⟨38, _⟩ => ⟨S_, .i32⟩
  | .hbm, ⟨39, _⟩ => ⟨S4096x200, .i32⟩
  | .hbm, ⟨40, _⟩ => ⟨S4096x200, .i32⟩
  | .hbm, ⟨41, _⟩ => ⟨S_, .i32⟩
  | .hbm, ⟨42, _⟩ => ⟨S4096x200, .i32⟩
  | .hbm, ⟨43, _⟩ => ⟨S4096x200, .i32⟩
  | .hbm, ⟨44, _⟩ => ⟨S_, .i32⟩
  | .hbm, ⟨45, _⟩ => ⟨S4096x200, .i32⟩
  | .hbm, ⟨46, _⟩ => ⟨S4096x200, .i1⟩
  | .hbm, ⟨47, _⟩ => ⟨S_, .i32⟩
  | .hbm, ⟨48, _⟩ => ⟨S4096x200, .i32⟩
  | .hbm, ⟨49, _⟩ => ⟨S4096x200, .i32⟩
  | .hbm, ⟨50, _⟩ => ⟨S4096x200, .i32⟩
  | .hbm, ⟨51, _⟩ => ⟨S4096x200x1, .i32⟩
  | .hbm, ⟨52, _⟩ => ⟨S4096x200, .f32⟩
  | .hbm, ⟨53, _⟩ => ⟨S_, .i32⟩
  | .hbm, ⟨54, _⟩ => ⟨S4096x200, .i32⟩
  | .hbm, ⟨55, _⟩ => ⟨S4096x200, .i1⟩
  | .hbm, ⟨56, _⟩ => ⟨S_, .i32⟩
  | .hbm, ⟨57, _⟩ => ⟨S4096x200, .i32⟩
  | .hbm, ⟨58, _⟩ => ⟨S4096x200, .i32⟩
  | .hbm, ⟨59, _⟩ => ⟨S4096x200, .i32⟩
  | .hbm, ⟨60, _⟩ => ⟨S4096x200x1, .i32⟩
  | .hbm, ⟨61, _⟩ => ⟨S4096x200, .f32⟩
  | .hbm, ⟨62, _⟩ => ⟨S4096x200, .f32⟩
  | .hbm, ⟨63, _⟩ => ⟨S4096x200, .f32⟩
  | .hbm, ⟨64, _⟩ => ⟨S4096x200, .f32⟩
  | .hbm, ⟨65, _⟩ => ⟨S4096x200, .f32⟩
  | .hbm, ⟨66, _⟩ => ⟨S4096x200, .f32⟩
  | .hbm, ⟨67, _⟩ => ⟨S_, .i32⟩
  | .hbm, ⟨68, _⟩ => ⟨S4096x200, .i32⟩
  | .hbm, ⟨69, _⟩ => ⟨S4096x200, .i1⟩
  | .hbm, ⟨70, _⟩ => ⟨S_, .i32⟩
  | .hbm, ⟨71, _⟩ => ⟨S4096x200, .i32⟩
  | .hbm, ⟨72, _⟩ => ⟨S4096x200, .i32⟩
  | .hbm, ⟨73, _⟩ => ⟨S4096x200, .i32⟩
  | .hbm, ⟨74, _⟩ => ⟨S4096x200x1, .i32⟩
  | .hbm, ⟨75, _⟩ => ⟨S1, .i32⟩
  | .hbm, ⟨76, _⟩ => ⟨S_, .i32⟩
  | .hbm, ⟨77, _⟩ => ⟨S4096x200x1, .i32⟩
  | .hbm, ⟨78, _⟩ => ⟨S4096x200x1, .i1⟩
  | .hbm, ⟨79, _⟩ => ⟨S1x1x1, .i32⟩
  | .hbm, ⟨80, _⟩ => ⟨S4096x200x1, .i32⟩
  | .hbm, ⟨81, _⟩ => ⟨S4096x200x1, .i1⟩
  | .hbm, ⟨82, _⟩ => ⟨S4096x200x1, .i1⟩
  | .hbm, ⟨83, _⟩ => ⟨S_, .i1⟩
  | .hbm, ⟨84, _⟩ => ⟨S4096x200, .i1⟩
  | .hbm, ⟨85, _⟩ => ⟨S4096x200x64, .f32⟩
  | .hbm, ⟨86, _⟩ => ⟨S4096x200x64, .i1⟩
  | .hbm, ⟨87, _⟩ => ⟨S_, .f32⟩
  | .hbm, ⟨88, _⟩ => ⟨S4096x200x64, .f32⟩
  | .hbm, ⟨89, _⟩ => ⟨S4096x200x64, .f32⟩
  | .hbm, ⟨90, _⟩ => ⟨S_, .i32⟩
  | .hbm, ⟨91, _⟩ => ⟨S4096x200, .i32⟩
  | .hbm, ⟨92, _⟩ => ⟨S4096x200, .i1⟩
  | .hbm, ⟨93, _⟩ => ⟨S_, .i32⟩
  | .hbm, ⟨94, _⟩ => ⟨S4096x200, .i32⟩
  | .hbm, ⟨95, _⟩ => ⟨S4096x200, .i32⟩
  | .hbm, ⟨96, _⟩ => ⟨S4096x200, .i32⟩
  | .hbm, ⟨97, _⟩ => ⟨S4096x200x1, .i32⟩
  | .hbm, ⟨98, _⟩ => ⟨S1, .i32⟩
  | .hbm, ⟨99, _⟩ => ⟨S_, .i32⟩
  | .hbm, ⟨100, _⟩ => ⟨S4096x200x1, .i32⟩
  | .hbm, ⟨101, _⟩ => ⟨S4096x200x1, .i1⟩
  | .hbm, ⟨102, _⟩ => ⟨S1x1x1, .i32⟩
  | .hbm, ⟨103, _⟩ => ⟨S4096x200x1, .i32⟩
  | .hbm, ⟨104, _⟩ => ⟨S4096x200x1, .i1⟩
  | .hbm, ⟨105, _⟩ => ⟨S4096x200x1, .i1⟩
  | .hbm, ⟨106, _⟩ => ⟨S_, .i1⟩
  | .hbm, ⟨107, _⟩ => ⟨S4096x200, .i1⟩
  | .hbm, ⟨108, _⟩ => ⟨S4096x200x64, .f32⟩
  | .hbm, ⟨109, _⟩ => ⟨S4096x200x64, .i1⟩
  | .hbm, ⟨110, _⟩ => ⟨S_, .f32⟩
  | .hbm, ⟨111, _⟩ => ⟨S4096x200x64, .f32⟩
  | .hbm, ⟨112, _⟩ => ⟨S4096x200x64, .f32⟩
  | .hbm, ⟨113, _⟩ => ⟨S4096x200x1, .f32⟩
  | .hbm, ⟨114, _⟩ => ⟨S4096x200x64, .f32⟩
  | .hbm, ⟨115, _⟩ => ⟨S4096x200x64, .f32⟩
  | .hbm, ⟨116, _⟩ => ⟨S4096x200x1, .f32⟩
  | .hbm, ⟨117, _⟩ => ⟨S4096x200x64, .f32⟩
  | .hbm, ⟨118, _⟩ => ⟨S4096x200x64, .f32⟩
  | .hbm, ⟨119, _⟩ => ⟨S4096x200x64, .f32⟩
  | _, _ => ⟨S4096x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c : Ref sig .tc := ⟨.hbm, 31, rfl⟩
abbrev main_v7 : Ref sig .tc := ⟨.hbm, 32, rfl⟩
abbrev main_c_1 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v8 : Ref sig .tc := ⟨.hbm, 40, rfl⟩
abbrev main_c_3 : Ref sig .tc := ⟨.hbm, 41, rfl⟩
abbrev main_v9 : Ref sig .tc := ⟨.hbm, 42, rfl⟩
abbrev main_v10 : Ref sig .tc := ⟨.hbm, 43, rfl⟩
abbrev main_c_4 : Ref sig .tc := ⟨.hbm, 44, rfl⟩
abbrev main_v11 : Ref sig .tc := ⟨.hbm, 45, rfl⟩
abbrev main_v12 : Ref sig .tc := ⟨.hbm, 46, rfl⟩
abbrev main_c_5 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_c_6 : Ref sig .tc := ⟨.hbm, 53, rfl⟩
abbrev main_v18 : Ref sig .tc := ⟨.hbm, 54, rfl⟩
abbrev main_v19 : Ref sig .tc := ⟨.hbm, 55, rfl⟩
abbrev main_c_7 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v30 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_v34 : Ref sig .tc := ⟨.hbm, 115, rfl⟩
abbrev main_v35 : Ref sig .tc := ⟨.hbm, 116, rfl⟩
abbrev main_v36 : Ref sig .tc := ⟨.hbm, 117, rfl⟩
abbrev main_v37 : Ref sig .tc := ⟨.hbm, 118, rfl⟩
abbrev main_v38 : Ref sig .tc := ⟨.hbm, 119, rfl⟩

abbrev nD : Nat := 1
abbrev τ : Topo := Topo.v7x

variable {F : FTy → Type} [FloatOps F]
-- ==== Proof.Hat.lean ====
/- The arithmetic of the claim, with no program in it. For a number `x` between 0 and 1, twenty-one slots lie at `k / 20`.
   `hat x k` is the weight the kernel gives row `k` of its table; `upper x` is the slot the reference finds above `x`.
   `sum_hat`: the kernel's sum over 32 rows is the reference's two terms. -/
module

public import Idealize.ShloMosaic.PureOps.Ideal
public import Idealize.ShloMosaic.PureOps.Ideal.Laws
public import Idealize.ShloMosaic.Lib.IdealHost
public import Mathlib.Algebra.Order.Floor.Semiring
public import Mathlib.Data.EReal.Operations
public import Mathlib.Tactic.Linarith

@[expose] public section

noncomputable section

namespace Cert.Hat

open Idealize.ShloMosaic

/-- The pattern of `20.0` denotes the number 20. -/
theorem ofBits_twenty : Ideal.ofBits .f32 0x41A00000#32 = ((20 : ℝ) : EReal) := by
  simp [Ideal.ofBits, Ideal.ieee, -EReal.coe_mul]; norm_num

/-- The weight of row `k` at the number `x`: one minus the distance of `20 x`, clipped to `[0, 20]`, from `k`, or zero
    where that is negative. -/
def hat (x : EReal) (k : ℕ) : EReal :=
  max (1 - max (min ((20 : ℝ) : EReal) (max 0 (x * ((20 : ℝ) : EReal))) - ((k : ℝ) : EReal))
    (-(min ((20 : ℝ) : EReal) (max 0 (x * ((20 : ℝ) : EReal))) - ((k : ℝ) : EReal)))) 0

/-- The weight at a real number of the unit interval, over the reals. -/
theorem hat_coe (r : ℝ) (h0 : 0 ≤ r) (h1 : r ≤ 1) (k : ℕ) : hat (r : EReal) k = ((max (1 - |r * 20 - k|) 0 : ℝ) : EReal) := by
  have hm : Monotone ((↑) : ℝ → EReal) := fun _ _ h => EReal.coe_le_coe_iff.2 h
  have hx : min ((20 : ℝ) : EReal) (max 0 ((r : EReal) * ((20 : ℝ) : EReal))) = ((r * 20 : ℝ) : EReal) := by
    rw [← EReal.coe_mul, ← EReal.coe_zero, ← hm.map_max, ← hm.map_min, max_eq_right (by positivity), min_eq_right (by linarith)]
  unfold hat
  rw [hx, ← EReal.coe_sub, ← EReal.coe_neg, ← hm.map_max, ← EReal.coe_one, ← EReal.coe_sub, ← EReal.coe_zero, ← hm.map_max]
  rfl

/-- The number of slots that are not above the number `x`, as the reference counts them. -/
def below (x : EReal) : ℕ := (Finset.univ.filter fun k : Fin 21 => (((k.val : ℝ) / 20 : ℝ) : EReal) ≤ x).card

/-- At a real number of the unit interval the slots not above it are the first `⌊20 r⌋ + 1`. -/
theorem below_coe (r : ℝ) (h0 : 0 ≤ r) (h1 : r ≤ 1) : below (r : EReal) = ⌊r * 20⌋₊ + 1 := by
  have hn : ⌊r * 20⌋₊ < 21 := by
    have : ⌊r * 20⌋₊ ≤ ⌊(20 : ℝ)⌋₊ := Nat.floor_le_floor (by linarith)
    rw [show (20 : ℝ) = ((20 : ℕ) : ℝ) by norm_num, Nat.floor_natCast] at this
    rw [show ((20 : ℕ) : ℝ) = 20 by norm_num] at this
    omega
  have e : (Finset.univ.filter fun k : Fin 21 => (((k.val : ℝ) / 20 : ℝ) : EReal) ≤ (r : EReal)) = Finset.Iic (⟨⌊r * 20⌋₊, hn⟩ : Fin 21) := by
    ext k
    simp only [Finset.mem_filter, Finset.mem_univ, true_and, Finset.mem_Iic, EReal.coe_le_coe_iff, Fin.le_def]
    rw [Nat.le_floor_iff (by positivity), div_le_iff₀ (by norm_num)]
  unfold below
  rw [e, Fin.card_Iic]

/-- The slot the reference finds above the number `x`: the count of slots not above it, clipped to `[1, 20]`. -/
def upper (x : EReal) : ℕ := min 20 (max 1 (below x))

/-- It is one of the slots `1 … 20`. -/
theorem upper_bounds (x : EReal) : 1 ≤ upper x ∧ upper x ≤ 20 := by unfold upper; omega

/-- A number of the unit interval lies between the slot below and the slot above. -/
theorem upper_spec (r : ℝ) (h0 : 0 ≤ r) (h1 : r ≤ 1) : ((upper (r : EReal) - 1 : ℕ) : ℝ) ≤ r * 20 ∧ r * 20 ≤ (upper (r : EReal) : ℝ) := by
  have hf := Nat.floor_le (show 0 ≤ r * 20 by positivity)
  have hl := Nat.lt_floor_add_one (r * 20)
  have hu : upper (r : EReal) = min 20 (⌊r * 20⌋₊ + 1) := by unfold upper; rw [below_coe r h0 h1]; omega
  rw [hu]
  rcases Nat.lt_or_ge ⌊r * 20⌋₊ 20 with h | h
  · rw [min_eq_right (by omega), Nat.add_sub_cancel]
    refine ⟨hf, ?_⟩
    push_cast; linarith
  · rw [min_eq_left (by omega)]
    have h20 : (20 : ℝ) ≤ (⌊r * 20⌋₊ : ℝ) := by exact_mod_cast h
    constructor <;> push_cast <;> linarith

/-- The kernel's weighted sum over a table of 32 rows is the reference's interpolation between the two slots around the
    number: every other row has weight zero. Nothing is asked of the table's entries. -/
theorem sum_hat (r : ℝ) (h0 : 0 ≤ r) (h1 : r ≤ 1) (e : ℕ → EReal) :
    ∑ k : Fin 32, hat (r : EReal) k.val * e k.val
      = ((upper (r : EReal) - r * 20 : ℝ) : EReal) * e (upper (r : EReal) - 1)
        + ((r * 20 - (upper (r : EReal) - 1 : ℕ) : ℝ) : EReal) * e (upper (r : EReal)) := by
  obtain ⟨hlo, hhi⟩ := upper_spec r h0 h1
  obtain ⟨hb1, hb2⟩ := upper_bounds (r : EReal)
  generalize upper (r : EReal) = h at *
  have hc : ((h - 1 : ℕ) : ℝ) = (h : ℝ) - 1 := by rw [Nat.cast_sub hb1, Nat.cast_one]
  rw [hc] at hlo
  rw [Fintype.sum_eq_add (⟨h - 1, by omega⟩ : Fin 32) ⟨h, by omega⟩ (by simp only [ne_eq, Fin.mk.injEq]; omega)]
  · dsimp only
    rw [hat_coe r h0 h1, hat_coe r h0 h1, hc]
    rw [abs_of_nonneg (by linarith), abs_of_nonpos (by linarith), max_eq_left (by linarith), max_eq_left (by linarith)]
    congr 3 <;> ring
  · rintro ⟨k, hk⟩ ⟨hk1, hk2⟩
    simp only [ne_eq, Fin.mk.injEq] at hk1 hk2
    have hz : max (1 - |r * 20 - (k : ℝ)|) 0 = 0 := by
      refine max_eq_right ?_
      rcases Nat.lt_or_ge k h with hlt | hge
      · have : (k : ℝ) + 2 ≤ (h : ℝ) := by exact_mod_cast (show k + 2 ≤ h by omega)
        have := le_abs_self (r * 20 - (k : ℝ))
        linarith
      · have : (h : ℝ) + 1 ≤ (k : ℝ) := by exact_mod_cast (show h + 1 ≤ k by omega)
        have := neg_le_abs (r * 20 - (k : ℝ))
        linarith
    dsimp only
    rw [hat_coe r h0 h1, hz, EReal.coe_zero, zero_mul]

/-- The reference's two quotients, with the slots at `k / 20`: the weights of the slot below and of the slot above. -/
theorem quotients (r : ℝ) (h : ℕ) (h1 : 1 ≤ h) :
    Ideal.div ((((h : ℝ) / 20 : ℝ) : EReal) - (r : EReal)) ((((h : ℝ) / 20 : ℝ) : EReal) - ((((h - 1 : ℕ) : ℝ) / 20 : ℝ) : EReal))
        = ((h - r * 20 : ℝ) : EReal)
      ∧ Ideal.div ((r : EReal) - ((((h - 1 : ℕ) : ℝ) / 20 : ℝ) : EReal)) ((((h : ℝ) / 20 : ℝ) : EReal) - ((((h - 1 : ℕ) : ℝ) / 20 : ℝ) : EReal))
        = ((r * 20 - (h - 1 : ℕ) : ℝ) : EReal) := by
  have hc : ((h - 1 : ℕ) : ℝ) = (h : ℝ) - 1 := by rw [Nat.cast_sub h1, Nat.cast_one]
  have hd : (h : ℝ) / 20 - ((h - 1 : ℕ) : ℝ) / 20 = 1 / 20 := by rw [hc]; ring
  constructor
  · rw [← EReal.coe_sub, ← EReal.coe_sub, hd, Ideal.div_coe (by norm_num), ← EReal.coe_mul]
    congr 1; ring
  · rw [← EReal.coe_sub, ← EReal.coe_sub, hd, Ideal.div_coe (by norm_num), ← EReal.coe_mul]
    congr 1; ring

end Cert.Hat

end
-- ==== Proof.Block.lean ====
/- What one block computes. A block is 32 rows of 200 numbers and the padded table of 32 rows of 64 entries. The body turns
   each row into a [200, 32] slab of weights (`slab`), stacks the slabs into [6400, 32], and multiplies by the table.
   `out_apply` reads the block's result at an index. -/
module

public import proofs.«01_k».proof.Proof.Gen.KernelIdeal.Value
public import proofs.«01_k».proof.Proof.Hat
public import Idealize.ShloMosaic.Lib.Pointwise
public import Idealize.ShloMosaic.Lib.Pipeline.Value

@[expose] public section

set_option maxRecDepth 16384

noncomputable section

namespace Cert.KernelIdeal.HandBlock

open Cert.KernelIdeal Cert.KernelIdeal.Gen Idealize.ShloMosaic Idealize.ShloMosaic.TcCoe Idealize.SL.Sem

variable {F : FTy → Type} [FloatOps F]

/-- Column `b` is a slice of the transposed block. -/
theorem column_ok : ∀ b : Fin 32, S200x32.Slices ![0, b.val] S200x1 := by decide

/-- The weights of row `b` of the block: for each of its 200 numbers, one weight per table row. -/
def slab (xt : FVec F S200x32 .f32) (b : Fin 32) : FVec F S200x32 .f32 :=
  maximumf (subf (broadcast S200x32 (Scalar.ofBits .f32 0x3F800000#32))
    (absf (subf (broadcastTo S200x32
        (minimumf (broadcast S200x1 (Scalar.ofBits .f32 0x41A00000#32))
          (maximumf (broadcast S200x1 (Scalar.ofBits .f32 0x00000000#32))
            (mulf (extractStridedSlice S200x1 ![0, b.val] xt (column_ok b)) (broadcast S200x1 (Scalar.ofBits .f32 0x41A00000#32)))))
        broadcasts_S200x1_S200x32)
      (sitofp .f32 (iota .tc S200x32 32 [1] iota_S200x32_d1_w32)))))
    (broadcast S200x32 (Scalar.ofBits .f32 0x00000000#32))

/-- The stacked slabs are 32 pieces of 200 rows. -/
theorem stack_ok (f : Fin 32 → FVec F S200x32 .f32) :
    Shape.Concatenates ((List.ofFn fun b : Fin 32 => (⟨S200x32, f b⟩ : (s : Shape) × (s.Idx → F .f32))).map (·.1)) S6400x32 0 := by
  have e : (List.ofFn fun b : Fin 32 => (⟨S200x32, f b⟩ : (s : Shape) × (s.Idx → F .f32))).map (·.1) = List.replicate 32 S200x32 := by
    rw [List.map_ofFn]; exact List.ofFn_const 32 S200x32
  rw [e]; decide

/-- The stack of the 32 slabs of a block. -/
def stack (xt : FVec F S200x32 .f32) : FVec F S6400x32 .f32 :=
  concatenate S6400x32 0 (List.ofFn fun b : Fin 32 => ⟨S200x32, slab xt b⟩) (stack_ok (slab xt))

/-- The body's stored value is the stack of the slabs of the transposed block, times the table. -/
theorem out_eq (x : Vec F S32x200 .f32) (e : Vec F S32x64 .f32) : out0_2 x e = k0_pay2 (stack (k0_pay3 x)) e := by
  have hz2 : (![0, 0, 0] : Fin S32x200x64.rank → Nat) = fun _ => 0 := funext fun a => by fin_cases a <;> rfl
  have hz0 : (![0, 0] : Fin S32x200.rank → Nat) = fun _ => 0 := funext fun a => by fin_cases a <;> rfl
  have hz1 : (![0, 0] : Fin S32x64.rank → Nat) = fun _ => 0 := funext fun a => by fin_cases a <;> rfl
  unfold out0_2 k0_pay50
  rw [View.canon_unit_zero hz2, View.ld_unit_zero hz0, View.ld_unit_zero hz1]
  rfl

/-! ## Read at an index, over the extended reals -/

/-- A word below 2^31 read as a signed integer is itself. -/
theorem word_toInt : ∀ k : Fin 32, (BitVec.ofNat 32 k.val).toInt = (k.val : Int) := by decide

/-- A slab at number `s` and table row `k` is the hat weight of that number at `k`. -/
theorem slab_apply (xt : FVec Ideal S200x32 .f32) (b : Fin 32) (s : Fin 200) (k : Fin 32) :
    slab xt b (ix2 s k) = Hat.hat (xt (ix2 s b)) k.val := by
  pointwise [slab]
  rw [Hat.ofBits_twenty]
  unfold Hat.hat
  have hk : (FloatOps.sitofp .f32 (BitVec.ofNat 32 k.val) : Ideal .f32) = ((k.val : ℝ) : EReal) := by
    show (((BitVec.ofNat 32 k.val).toInt : ℝ) : EReal) = _
    rw [word_toInt]; norm_cast
  rw [hk]
  rfl

/-- The stack at row `200 b + s` is slab `b` at number `s`. -/
theorem stack_apply (xt : FVec Ideal S200x32 .f32) (b : Fin 32) (s : Fin 200) (k : Fin 32) :
    stack xt (ix2 (⟨b.val * 200 + s.val, by omega⟩ : Fin 6400) k) = Hat.hat (xt (ix2 s b)) k.val := by
  rw [← slab_apply]
  unfold stack
  refine concatenate_ofFn_apply (t := S6400x32) (s₁ := S200x32) (0 : Fin 2) (slab xt) (stack_ok (slab xt)) rfl 200 rfl _ b ?_ (ix2 s k) ?_ ?_
  · show (b.val * 200 + s.val) / 200 = b.val
    omega
  · show s.val = (b.val * 200 + s.val) % 200
    omega
  · intro a ha
    match a with
    | ⟨0, _⟩ => exact absurd rfl ha
    | ⟨1, _⟩ => rfl

/-- The block's result at row `b`, number `s` and column `d`: the sum over the table's 32 rows of weight times entry. -/
theorem out_apply (x : Vec Ideal S32x200 .f32) (e : Vec Ideal S32x64 .f32) (b : Fin 32) (s : Fin 200) (d : Fin 64) :
    out0_2 x e (ix3 b s d) = ∑ k : Fin 32, Hat.hat (x (ix2 b s)) k.val * e (ix2 k d) := by
  rw [out_eq]
  pointwise [k0_pay2]
  refine Finset.sum_congr rfl fun k _ => ?_
  rw [stack_apply]
  pointwise [k0_pay3]

end Cert.KernelIdeal.HandBlock

end
-- ==== Proof.KernelValue.lean ====
/- What the result array holds after the run. The padded table is the embedding's 21 rows over 11 rows of zeros
   (`table_apply`); grid point `t` reads rows `32 t … 32 t + 31` of the numbers and the whole table, and writes back rows
   `32 t … 32 t + 31` of one whole-array function `result` (`flushed_eq`); the 128 blocks tile the array (`cover`). -/
module

public import proofs.«01_k».proof.Proof.Block
public import Idealize.ShloMosaic.Lib.Routing.OpsSet
public import Idealize.ShloMosaic.Lib.Routing.OpsPair

@[expose] public section

set_option maxRecDepth 16384

noncomputable section

namespace Cert.KernelIdeal.HandValue

open Cert.KernelIdeal Cert.KernelIdeal.Gen Idealize.ShloMosaic Idealize.ShloMosaic.TcCoe Idealize.SL.Sem

/-! ## The padded table -/

/-- Row `k` of the padded table: the embedding's row while there is one, zeros after. -/
def padded (e : Vec Ideal S21x64 .f32) (d : Fin 64) (k : ℕ) : EReal :=
  if h : k < 21 then e (ix2 ⟨k, h⟩ d) else 0

/-- Writing the whole update at row 0 puts its entry `(r, d)` at `(r, d)`, and lands nowhere else. -/
theorem lands (k : S21x64.Idx) (i : S32x64.Idx) :
    scatter_S32x64_S1_S21x64_01_n_0_0.resultIdx? k (fun _ : S1.Idx => 0#32) = some i ↔ (k 0).val = (i 0).val ∧ (k 1).val = (i 1).val := by
  rw [Routing.resultIdx?_eq_some]
  have s : ∀ a, scatter_S32x64_S1_S21x64_01_n_0_0.start k (fun _ : S1.Idx => 0#32) a = 0 := by
    intro a; unfold ScatterDims.start; split <;> rfl
  have w0 : scatter_S32x64_S1_S21x64_01_n_0_0.window k 0 = (k 0).val := rfl
  have w1 : scatter_S32x64_S1_S21x64_01_n_0_0.window k 1 = (k 1).val := rfl
  constructor
  · intro h
    have h0 := h 0
    have h1 := h 1
    rw [s, w0] at h0
    rw [s, w1] at h1
    omega
  · rintro ⟨h0, h1⟩ a
    match a with
    | ⟨0, _⟩ => show scatter_S32x64_S1_S21x64_01_n_0_0.start k (fun _ : S1.Idx => 0#32) 0 + _ = _; rw [s]; show (0:Int) + ((k 0).val : Int) = ((i 0).val : Int); omega
    | ⟨1, _⟩ => show scatter_S32x64_S1_S21x64_01_n_0_0.start k (fun _ : S1.Idx => 0#32) 1 + _ = _; rw [s]; show (0:Int) + ((k 1).val : Int) = ((i 1).val : Int); omega

variable (m : (ℓ : Loc nD τ sig) → Buf (Elt Ideal) ℓ) (ρ : Dev nD → PrngReg)

/-- The numbers of device `c`. -/
abbrev nums (c : Dev nD) : Vec Ideal S4096x200 .f32 := m ((c : Thread nD τ).loc main_arg0)

/-- The embedding of device `c`. -/
abbrev emb (c : Dev nD) : Vec Ideal S21x64 .f32 := m ((c : Thread nD τ).loc main_arg1)

/-- The table when the kernel is entered: the embedding written over zeros at row 0. -/
theorem V_main_v2 (c : Dev nD) : V m c main_v2
    = Host.scatter scatter_S32x64_S1_S21x64_01_n_0_0 (fun _ b => b) (fun _ : S32x64.Idx => Ideal.ofBits .f32 0x00000000#32) (fun _ : S1.Idx => 0#32) (emb m c) := by
  show StableHlo.after hostOps0 _ (Proc.devRef .tc main_v2) = _
  after_results
  rfl

/-- The table at row `k`, column `d`. -/
theorem table_apply (c : Dev nD) (k : Fin 32) (d : Fin 64) : V m c main_v2 (ix2 k d) = padded (emb m c) d k.val := by
  rw [V_main_v2]
  unfold padded
  split
  · next h =>
    refine Routing.scatter_set_hit _ _ _ _ _ _ (fun j hj => ?_) (ix2 ⟨k.val, h⟩ d) ((lands _ _).2 ⟨rfl, rfl⟩)
    have q := (lands _ _).1 hj
    refine congrArg (emb m c) (funext fun a => Fin.ext ?_)
    match a with
    | ⟨0, _⟩ => exact q.1
    | ⟨1, _⟩ => exact q.2
  · next h =>
    refine (Routing.scatter_set_miss _ _ _ _ _ (fun j hj => ?_)).trans Ideal.ofBits_zero_f32
    have q : (j 0).val = k.val := ((lands _ _).1 hj).1
    have : (j 0).val < 21 := (j 0).isLt
    omega

/-! ## The blocks the grid points read -/

/-- Where the windows' blocks are: the numbers' and the result's at rows `32 t`, the table's at its start. -/
theorem places : ∀ t : Fin cfg0.N, (win0_0.index t 0 * win0_0.size 0 = t.val * 32 ∧ win0_0.index t 1 * win0_0.size 1 = 0)
    ∧ (win0_1.index t 0 * win0_1.size 0 = 0 ∧ win0_1.index t 1 * win0_1.size 1 = 0)
    ∧ (win0_2.index t 0 * win0_2.size 0 = t.val * 32 ∧ win0_2.index t 1 * win0_2.size 1 = 0 ∧ win0_2.index t 2 * win0_2.size 2 = 0)
    ∧ win0_2.xsize (grid0.coords t) 0 = 32 ∧ win0_2.xsize (grid0.coords t) 1 = 200 ∧ win0_2.xsize (grid0.coords t) 2 = 64 :=
  (by decide +kernel : ∀ t : Fin grid0.N, (win0_0.index t 0 * win0_0.size 0 = t.val * 32 ∧ win0_0.index t 1 * win0_0.size 1 = 0)
    ∧ (win0_1.index t 0 * win0_1.size 0 = 0 ∧ win0_1.index t 1 * win0_1.size 1 = 0)
    ∧ (win0_2.index t 0 * win0_2.size 0 = t.val * 32 ∧ win0_2.index t 1 * win0_2.size 1 = 0 ∧ win0_2.index t 2 * win0_2.size 2 = 0)
    ∧ win0_2.xsize (grid0.coords t) 0 = 32 ∧ win0_2.xsize (grid0.coords t) 1 = 200 ∧ win0_2.xsize (grid0.coords t) 2 = 64)

/-- Row `b` of block `t` is a row of the array. -/
theorem row_lt (t : Fin cfg0.N) (b : Fin 32) : t.val * 32 + b.val < 4096 := by
  have h : t.val < cfg0.N := t.isLt
  have hN : cfg0.N = 128 := N_0
  omega

/-- The block of numbers point `t` reads. -/
theorem nums_block (c : Dev nD) (t : Fin cfg0.N) (b : Fin 32) (s : Fin 200) :
    iblk m c 0 t (ix2 b s) = nums m c (ix2 ⟨t.val * 32 + b.val, row_lt t b⟩ s) := by
  have p := (places t).1
  show V m c main_arg0 ((win0_0.rect t).emb (ix2 b s)) = _
  rw [V_main_arg0]
  refine congrArg (nums m c) (funext fun a => Fin.ext ?_)
  match a with
  | ⟨0, _⟩ => show win0_0.index t 0 * win0_0.size 0 + 1 * b.val = t.val * 32 + b.val; omega
  | ⟨1, _⟩ => show win0_0.index t 1 * win0_0.size 1 + 1 * s.val = s.val; omega

/-- The table point `t` reads. -/
theorem table_block (c : Dev nD) (t : Fin cfg0.N) (k : Fin 32) (d : Fin 64) :
    iblk m c 1 t (ix2 k d) = padded (emb m c) d k.val := by
  have p := (places t).2.1
  rw [← table_apply m c k d]
  show V m c main_v2 ((win0_1.rect t).emb (ix2 k d)) = _
  refine congrArg (V m c main_v2) (funext fun a => Fin.ext ?_)
  match a with
  | ⟨0, _⟩ => show win0_1.index t 0 * win0_1.size 0 + 1 * k.val = k.val; omega
  | ⟨1, _⟩ => show win0_1.index t 1 * win0_1.size 1 + 1 * d.val = d.val; omega

/-! ## The result array -/

/-- What the result array is shown to hold: at `(n, s, d)`, the weighted sum of column `d` of the padded table. -/
def result (c : Dev nD) : Buf (Elt Ideal) ((c : Thread nD τ).loc main_v3) :=
  fun i : S4096x200x64.Idx => (∑ k : Fin 32, Hat.hat (nums m c (ix2 (i 0) (i 1))) k.val * padded (emb m c) (i 2) k.val : EReal)

/-- What point `t` writes back is block `t` of `result`. -/
theorem flushed_eq (c : Dev nD) (t : Fin cfg0.N) :
    (dats m 0 c).flushed 2 t = ((cfg0.win 2).blk t).view.read (Elt Ideal) (result m c) := by
  rw [Value.flushed2]
  have p := (places t).2.2.1
  refine funext fun (y : S32x200x64.Idx) => ?_
  obtain ⟨b, s, d, rfl⟩ : ∃ b s d, y = ix3 b s d := ⟨y 0, y 1, y 2, funext fun a => by fin_cases a <;> rfl⟩
  have e : (win0_2.rect t).emb (ix3 b s d) = (ix3 ⟨t.val * 32 + b.val, row_lt t b⟩ s d : S4096x200x64.Idx) := funext fun a => Fin.ext (by
    match a with
    | ⟨0, _⟩ => show win0_2.index t 0 * win0_2.size 0 + 1 * b.val = t.val * 32 + b.val; omega
    | ⟨1, _⟩ => show win0_2.index t 1 * win0_2.size 1 + 1 * s.val = s.val; omega
    | ⟨2, _⟩ => show win0_2.index t 2 * win0_2.size 2 + 1 * d.val = d.val; omega)
  show out0_2 (iblk m c 0 t) (iblk m c 1 t) (ix3 b s d) = result m c ((win0_2.rect t).emb (ix3 b s d))
  rw [e, HandBlock.out_apply]
  refine Finset.sum_congr rfl fun k _ => ?_
  rw [nums_block, table_block]
  rfl

/-- An index of the result array is in point `t`'s block when its first coordinate is one of the block's 32 rows. -/
theorem mem_block (t : Fin cfg0.N) (i : S4096x200x64.Idx) :
    i ∈ ((cfg0.win 2).blk t).view.set ↔ t.val * 32 ≤ (i 0 : Nat) ∧ (i 0 : Nat) < t.val * 32 + 32 := by
  show i ∈ ((View.whole main_v3).slice (win0_2.rect t)).set ↔ _
  rw [View.set_slice_whole, Rect.mem_set_unit]
  obtain ⟨-, -, ⟨p0, p1, p2⟩, x0, x1, x2⟩ := places t
  have h1 : (i 1 : Nat) < 200 := (i 1).isLt
  have h2 : (i 2 : Nat) < 64 := (i 2).isLt
  constructor
  · intro h
    have h0 : win0_2.index t 0 * win0_2.size 0 ≤ (i 0 : Nat) ∧ (i 0 : Nat) < win0_2.index t 0 * win0_2.size 0 + win0_2.xsize (grid0.coords t) 0 := h 0
    omega
  · intro h a
    match a with
    | ⟨0, _⟩ => show win0_2.index t 0 * win0_2.size 0 ≤ (i 0 : Nat) ∧ (i 0 : Nat) < win0_2.index t 0 * win0_2.size 0 + win0_2.xsize (grid0.coords t) 0; omega
    | ⟨1, _⟩ => show win0_2.index t 1 * win0_2.size 1 ≤ (i 1 : Nat) ∧ (i 1 : Nat) < win0_2.index t 1 * win0_2.size 1 + win0_2.xsize (grid0.coords t) 1; omega
    | ⟨2, _⟩ => show win0_2.index t 2 * win0_2.size 2 ≤ (i 2 : Nat) ∧ (i 2 : Nat) < win0_2.index t 2 * win0_2.size 2 + win0_2.xsize (grid0.coords t) 2; omega

/-- The 128 blocks tile the result array. -/
theorem cover (i : S4096x200x64.Idx) :
    ∃ t : Fin cfg0.N, (cfg0.win 2).flush t = true ∧ i ∈ ((cfg0.win 2).blk t).view.set := by
  have h0 : (i 0 : Nat) < 4096 := (i 0).isLt
  have hN : cfg0.N = 128 := N_0
  refine ⟨⟨(i 0 : Nat) / 32, by omega⟩, flush0_2 _, (mem_block _ _).2 ?_⟩
  dsimp only
  omega

/-- The run: the result array ends at `result`, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 (result m c) (fun t _ => flushed_eq m c t) cover), (h c).2⟩)
    (Value.run_blocks m ρ)

end Cert.KernelIdeal.HandValue

end
-- ==== Proof.RefValue.lean ====
/- What the reference computes, read at an index. `slots_apply`: the slots are `k / 20`. `count_apply`: the count of slots not
   above a number is `Hat.below`. `upper_word` and `lower_word`: the two neighbouring slots as words. `slot_read`, `row_read`
   and `mask_one`: the lookups of a slot and of an embedding row at an index word in range. `out_apply`: the result. -/
module

public import proofs.«01_k».proof.Proof.Gen.ReferenceIdeal.Read
public import proofs.«01_k».proof.Proof.Hat
public import Idealize.ShloMosaic.Lib.Pointwise
public import Idealize.ShloMosaic.Lib.Pipeline.Value
public import Idealize.ShloMosaic.Lib.IndicatorCount
public import Idealize.ShloMosaic.Lib.ValueIdxCore

@[expose] public section

set_option maxRecDepth 16384

noncomputable section

namespace Cert.ReferenceIdeal.HandRead

open Cert.ReferenceIdeal Cert.ReferenceIdeal.Gen Cert.ReferenceIdeal.Read Idealize.ShloMosaic Idealize.ShloMosaic.TcCoe Idealize.SL.Sem

/-! ## The slots and the count -/

/-- A small counter word read as a number. -/
theorem small_toInt : ∀ k : Fin 21, (BitVec.ofNat 32 k.val).toInt = (k.val : Int) := by decide

/-- Slot `k` is `k / 20`. -/
theorem slots_apply (k : Fin 21) : val_main_v0 (F := Ideal) (ix1 k) = (((k.val : ℝ) / 20 : ℝ) : EReal) := by
  unfold val_main_v0
  pointwise [val_main_call0_v15, val_main_call0_v16, val_main_call0_v14, val_main_call0_v13, val_main_call0_v12, val_main_call0_v11,
    val_main_call0_v10, val_main_call0_v9, val_main_call0_v8, val_main_call0_v7, val_main_call0_v6, val_main_call0_v5,
    val_main_call0_v4, val_main_call0_v3, val_main_call0_v2, val_main_call0_v1, val_main_call0_v0, val_main_call0_cst,
    val_main_call0_cst_0, val_main_call0_cst_1, val_main_cst, val_main_cst_0]
  have z : (id (constant (F := Ideal) S_ FTy.f32 0x00000000#32) ix0 : EReal) = 0 := Ideal.ofBits_zero_f32
  have o : (id (constant (F := Ideal) S_ FTy.f32 0x3F800000#32) ix0 : EReal) = 1 := Ideal.ofBits_one_f32
  have q : (FloatOps.sitofp (F := Ideal) FTy.f32 (BitVec.ofNat 32 k.val) : EReal) = ((k.val : ℝ) : EReal) := by
    show ((((BitVec.ofNat 32 k.val).toInt : ℤ) : ℝ) : EReal) = _
    rw [small_toInt]; norm_num
  split
  · erw [z, o, q, Hat.ofBits_twenty]
    have dv : Ideal.div ((k.val : ℝ) : EReal) ((20 : ℝ) : EReal) = (((k.val : ℝ) / 20 : ℝ) : EReal) := by
      rw [Ideal.div_coe (by norm_num), ← EReal.coe_mul]
      congr 1; ring
    rw [dv, zero_mul, zero_add, one_mul]
  · next h =>
    have : k.val = 20 := by omega
    erw [o, this]
    norm_num

/-- The count of slots not above a number, as a word. -/
theorem count_apply (x : Vec Ideal S4096x200 .f32) (n : Fin 4096) (s : Fin 200) :
    val_main_v7 (F := Ideal) x (ix2 n s) = BitVec.ofNat 32 (Hat.below (x (ix2 n s))) := by
  unfold val_main_v7
  pointwise [val_main_v6, val_main_v5, val_main_v4, val_main_v3, val_main_v2, val_main_v1, val_main_c]
  rw [IndicatorCount.fold_addi_setWidth_eq_card]
  unfold Hat.below
  refine congrArg (fun S : Finset (Fin 21) => BitVec.ofNat 32 S.card) (Finset.filter_congr fun k _ => ?_)
  have b : ∀ (u v : EReal) (i : Decidable (u ≤ v)), BitVec.ofBool (@decide (u ≤ v) i) = 1#1 ↔ u ≤ v := fun u v i => by
    by_cases h : u ≤ v <;> simp [h]
  refine (b _ _ _).trans ?_
  show (val_main_v0 (F := Ideal) (ix1 k) : EReal) ≤ x (ix2 n s) ↔ _
  rw [slots_apply]

/-- The clip of a count to `[1, 20]` on words. -/
theorem clip_word : ∀ k : Fin 22, IntOp.minsi 20#32 (IntOp.maxsi 1#32 (BitVec.ofNat 32 k.val)) = BitVec.ofNat 32 (min 20 (max 1 k.val)) := by decide

/-- The predecessor on words. -/
theorem pred_word : ∀ k : Fin 21, 1 ≤ k.val → IntOp.subi (BitVec.ofNat 32 k.val) 1#32 = BitVec.ofNat 32 (k.val - 1) := by decide

/-- A word in range is not wrapped. -/
theorem wrap_word : ∀ k : Fin 21, Scalar.select (IntOp.cmpi .slt (BitVec.ofNat 32 k.val) 0#32) (IntOp.addi (BitVec.ofNat 32 k.val) 21#32) (BitVec.ofNat 32 k.val)
    = BitVec.ofNat 32 k.val := by decide

/-- A word in range passes the range test. -/
theorem range_word : ∀ k : Fin 21, IntOp.andi (IntOp.cmpi .sge (BitVec.ofNat 32 k.val) 0#32) (IntOp.cmpi .sle (BitVec.ofNat 32 k.val) 20#32) = 1#1 := by decide

/-- The slot above a number, as an index of the slots. -/
def hi (x : EReal) : Fin 21 := ⟨Hat.upper x, by have := Hat.upper_bounds x; omega⟩

/-- The slot below. -/
def lo (x : EReal) : Fin 21 := ⟨Hat.upper x - 1, by have := Hat.upper_bounds x; omega⟩

/-- The slot above, as the reference's word. -/
theorem upper_word (x : Vec Ideal S4096x200 .f32) (n : Fin 4096) (s : Fin 200) :
    val_main_v8 (F := Ideal) x (ix2 n s) = BitVec.ofNat 32 (hi (x (ix2 n s))).val := by
  have hb : Hat.below (x (ix2 n s)) < 22 := by
    have := Finset.card_filter_le (Finset.univ : Finset (Fin 21)) fun k => (((k.val : ℝ) / 20 : ℝ) : EReal) ≤ x (ix2 n s)
    have e : (Finset.univ : Finset (Fin 21)).card = 21 := by simp
    unfold Hat.below; omega
  rw [val_main_v8_apply, val_main_call1_v4_apply, val_main_call1_v3_apply, val_main_c_2_apply, val_main_call1_v2_apply,
    val_main_call1_v1_apply, val_main_call1_v0_apply, val_main_c_1_apply, count_apply]
  exact clip_word ⟨_, hb⟩

/-- The slot below, as the reference's word. -/
theorem lower_word (x : Vec Ideal S4096x200 .f32) (n : Fin 4096) (s : Fin 200) :
    val_main_v10 (F := Ideal) x (ix2 n s) = BitVec.ofNat 32 (lo (x (ix2 n s))).val := by
  rw [val_main_v10_apply, val_main_v9_apply, val_main_c_3_apply, upper_word]
  exact pred_word _ (Hat.upper_bounds _).1

/-! ## The lookups -/

/-- A slot looked up at an index word in range. -/
theorem slot_read (idx : IVec S4096x200x1 32) (n : Fin 4096) (s : Fin 200) (k : Fin 21) (h : idx (ix3 n s 0) = BitVec.ofNat 32 k.val) :
    Host.gather gather_S21_S4096x200x1_S4096x200_n_0_n_n_0_2_1 (val_main_v0 (F := Ideal)) idx (ix2 n s) = (((k.val : ℝ) / 20 : ℝ) : EReal) := by
  rw [← slots_apply]
  refine (ValueIdx.gather_take_apply (N := 21) (R := 4096) (C := 200) (by decide) _ _ idx (ix2 n s)).trans ?_
  refine congrArg (val_main_v0 (F := Ideal)) (funext fun a => Fin.ext ?_)
  have e : ValueIdx.takeIdx (ix2 n s) = ix3 n s 0 := funext fun a => by fin_cases a <;> rfl
  match a with
  | ⟨0, _⟩ =>
    show min (idx (ValueIdx.takeIdx (ix2 n s))).toInt.toNat 20 = k.val
    rw [e, h, small_toInt]
    omega

/-- An embedding row looked up at an index word in range. -/
theorem row_read (e : Vec Ideal S21x64 .f32) (idx : IVec S4096x200x1 32) (n : Fin 4096) (s : Fin 200) (d : Fin 64) (k : Fin 21)
    (h : idx (ix3 n s 0) = BitVec.ofNat 32 k.val) :
    Host.gather gather_S21x64_S4096x200x1_S4096x200x64_2_0_n_n_0_2_164 e idx (ix3 n s d) = e (ix2 k d) := by
  unfold Host.gather
  refine congrArg e (funext fun a => Fin.ext ?_)
  have q : gather_S21x64_S4096x200x1_S4096x200x64_2_0_n_n_0_2_164.siIdx (ix3 n s d) ⟨0, by decide⟩ = ix3 n s 0 := by
    funext b; refine Fin.ext ?_
    match b with
    | ⟨0, _⟩ => rfl
    | ⟨1, _⟩ => rfl
    | ⟨2, _⟩ => rfl
  match a with
  | ⟨0, _⟩ =>
    show gather_S21x64_S4096x200x1_S4096x200x64_2_0_n_n_0_2_164.start (ix3 n s d) idx 0
      + gather_S21x64_S4096x200x1_S4096x200x64_2_0_n_n_0_2_164.batchCoord (ix3 n s d) 0
      + gather_S21x64_S4096x200x1_S4096x200x64_2_0_n_n_0_2_164.offCoord (ix3 n s d) 0 = k.val
    have st : gather_S21x64_S4096x200x1_S4096x200x64_2_0_n_n_0_2_164.start (ix3 n s d) idx 0 = min (idx (ix3 n s 0)).toInt.toNat 20 := by
      rw [← q]; rfl
    have b0 : gather_S21x64_S4096x200x1_S4096x200x64_2_0_n_n_0_2_164.batchCoord (ix3 n s d) 0 = 0 := rfl
    have o0 : gather_S21x64_S4096x200x1_S4096x200x64_2_0_n_n_0_2_164.offCoord (ix3 n s d) 0 = 0 := rfl
    rw [st, b0, o0, h, small_toInt]
    omega
  | ⟨1, _⟩ =>
    show gather_S21x64_S4096x200x1_S4096x200x64_2_0_n_n_0_2_164.start (ix3 n s d) idx 1
      + gather_S21x64_S4096x200x1_S4096x200x64_2_0_n_n_0_2_164.batchCoord (ix3 n s d) 1
      + gather_S21x64_S4096x200x1_S4096x200x64_2_0_n_n_0_2_164.offCoord (ix3 n s d) 1 = d.val
    have st : gather_S21x64_S4096x200x1_S4096x200x64_2_0_n_n_0_2_164.start (ix3 n s d) idx 1 = 0 := rfl
    have b0 : gather_S21x64_S4096x200x1_S4096x200x64_2_0_n_n_0_2_164.batchCoord (ix3 n s d) 1 = 0 := rfl
    have o0 : gather_S21x64_S4096x200x1_S4096x200x64_2_0_n_n_0_2_164.offCoord (ix3 n s d) 1 = d.val := rfl
    rw [st, b0, o0]
    omega

/-- The range test of an index word in range. -/
theorem mask_one (idx lows highs : IVec S4096x200x1 32) (init : IVec S_ 1) (n : Fin 4096) (s : Fin 200) (k : Fin 21)
    (h : idx (ix3 n s 0) = BitVec.ofNat 32 k.val) (hl : ∀ i, lows i = 0#32) (hh : ∀ i, highs i = 20#32) (hi : ∀ i, init i = 1#1) :
    Host.reduce IntOp.andi (andi (cmpi .sge idx lows) (cmpi .sle idx highs)) init reducesTo_S4096x200x1_S4096x200_d2 h_S_ (ix2 n s) = 1#1 := by
  pointwise []
  rw [show (Finset.univ : Finset (Fin 1)) = {0} from rfl, Finset.fold_singleton]
  rw [h, hl, hh, hi, range_word]
  rfl

/-- The index words of the four lookups are the slot below, the slot above, the slot below and the slot above. -/
theorem words (x : Vec Ideal S4096x200 .f32) (n : Fin 4096) (s : Fin 200) :
    val_main_v16 (F := Ideal) x (ix3 n s 0) = BitVec.ofNat 32 (lo (x (ix2 n s))).val
    ∧ val_main_v23 (F := Ideal) x (ix3 n s 0) = BitVec.ofNat 32 (hi (x (ix2 n s))).val
    ∧ val_main_call2_v5 (F := Ideal) x (ix3 n s 0) = BitVec.ofNat 32 (lo (x (ix2 n s))).val
    ∧ val_main_call3_v5 (F := Ideal) x (ix3 n s 0) = BitVec.ofNat 32 (hi (x (ix2 n s))).val := by
  have i0 : idx_main_v16 (ix3 n s 0) = ix2 n s := funext fun a => by fin_cases a <;> rfl
  have i1 : idx_main_v23 (ix3 n s 0) = ix2 n s := funext fun a => by fin_cases a <;> rfl
  have i2 : idx_main_call2_v5 (ix3 n s 0) = ix2 n s := funext fun a => by fin_cases a <;> rfl
  have i3 : idx_main_call3_v5 (ix3 n s 0) = ix2 n s := funext fun a => by fin_cases a <;> rfl
  refine ⟨?_, ?_, ?_, ?_⟩
  · rw [val_main_v16_apply, i0, val_main_v15_apply, val_main_v12_apply, val_main_v14_apply, val_main_v11_apply, val_main_v13_apply,
      val_main_c_4_apply, val_main_c_5_apply, lower_word]
    exact wrap_word _
  · rw [val_main_v23_apply, i1, val_main_v22_apply, val_main_v19_apply, val_main_v21_apply, val_main_v18_apply, val_main_v20_apply,
      val_main_c_6_apply, val_main_c_7_apply, upper_word]
    exact wrap_word _
  · rw [val_main_call2_v5_apply, i2, val_main_call2_v4_apply, val_main_call2_v1_apply, val_main_call2_v3_apply, val_main_call2_v0_apply,
      val_main_call2_v2_apply, val_main_call2_c_apply, val_main_call2_c_0_apply, lower_word]
    exact wrap_word _
  · rw [val_main_call3_v5_apply, i3, val_main_call3_v4_apply, val_main_call3_v1_apply, val_main_call3_v3_apply, val_main_call3_v0_apply,
      val_main_call3_v2_apply, val_main_call3_c_apply, val_main_call3_c_0_apply, upper_word]
    exact wrap_word _

/-- The embedding row of the slot below. -/
theorem lower_row (x : Vec Ideal S4096x200 .f32) (e : Vec Ideal S21x64 .f32) (n : Fin 4096) (s : Fin 200) (d : Fin 64) :
    val_main_v30 (F := Ideal) x e (ix3 n s d) = e (ix2 (lo (x (ix2 n s))) d) := by
  have w := (words x n s).2.2.1
  have i : idx_main_call2_v14 (ix3 n s d) = ix2 n s := funext fun a => by fin_cases a <;> rfl
  have k : val_main_call2_v12 (F := Ideal) x (ix2 n s) = 1#1 :=
    mask_one _ _ _ _ n s _ w (fun i => by rw [val_main_call2_v6_apply, val_main_call2_c_2_apply])
      (fun i => by rw [val_main_call2_v9_apply, val_main_call2_v8_apply, val_main_call2_c_1_apply]) (fun i => val_main_call2_c_3_apply i)
  rw [val_main_v30_apply, val_main_call2_v14_apply, i, k]
  exact row_read e _ n s d _ w

/-- The embedding row of the slot above. -/
theorem upper_row (x : Vec Ideal S4096x200 .f32) (e : Vec Ideal S21x64 .f32) (n : Fin 4096) (s : Fin 200) (d : Fin 64) :
    val_main_v31 (F := Ideal) x e (ix3 n s d) = e (ix2 (hi (x (ix2 n s))) d) := by
  have w := (words x n s).2.2.2
  have i : idx_main_call3_v14 (ix3 n s d) = ix2 n s := funext fun a => by fin_cases a <;> rfl
  have k : val_main_call3_v12 (F := Ideal) x (ix2 n s) = 1#1 :=
    mask_one _ _ _ _ n s _ w (fun i => by rw [val_main_call3_v6_apply, val_main_call3_c_2_apply])
      (fun i => by rw [val_main_call3_v9_apply, val_main_call3_v8_apply, val_main_call3_c_1_apply]) (fun i => val_main_call3_c_3_apply i)
  rw [val_main_v31_apply, val_main_call3_v14_apply, i, k]
  exact row_read e _ n s d _ w

/-! ## The result -/

/-- The reference's result at a number of the unit interval: the rows of the two neighbouring slots, weighted by the distances
    to the other one. -/
theorem out_apply (x : Vec Ideal S4096x200 .f32) (e : Vec Ideal S21x64 .f32) (n : Fin 4096) (s : Fin 200) (d : Fin 64)
    (r : ℝ) (hx : x (ix2 n s) = (r : EReal)) :
    val_main_v38 (F := Ideal) x e (ix3 n s d)
      = (((Hat.upper (r : EReal) - r * 20 : ℝ) : EReal) * e (ix2 (lo (r : EReal)) d)
        + ((r * 20 - (Hat.upper (r : EReal) - 1 : ℕ) : ℝ) : EReal) * e (ix2 (hi (r : EReal)) d) : EReal) := by
  have i0 : idx_main_v32 (idx_main_v33 (ix3 n s d)) = ix2 n s := funext fun a => by fin_cases a <;> rfl
  have i1 : idx_main_v35 (idx_main_v36 (ix3 n s d)) = ix2 n s := funext fun a => by fin_cases a <;> rfl
  obtain ⟨w0, w1, -, -⟩ := words x n s
  have s0 : val_main_v17 (F := Ideal) x (ix2 n s) = _ := slot_read _ n s _ w0
  have s1 : val_main_v24 (F := Ideal) x (ix2 n s) = _ := slot_read _ n s _ w1
  obtain ⟨qh, ql⟩ := Hat.quotients r (Hat.upper (r : EReal)) (Hat.upper_bounds _).1
  rw [val_main_v38_apply, val_main_v34_apply, val_main_v37_apply, val_main_v33_apply, val_main_v32_apply, i0, val_main_v36_apply,
    val_main_v35_apply, i1, lower_row, upper_row, val_main_v29_apply, val_main_v28_apply, val_main_v27_apply, val_main_v26_apply,
    val_main_v25_apply, s0, s1, hx]
  rw [Ideal.addf_def, Ideal.mulf_def, Ideal.mulf_def, Ideal.hostDivf_def, Ideal.hostDivf_def, Ideal.subf_def, Ideal.subf_def, Ideal.subf_def]
  show Ideal.div ((((Hat.upper (r : EReal) : ℕ) : ℝ) / 20 : ℝ) - (r : EReal)) ((((Hat.upper (r : EReal) : ℕ) : ℝ) / 20 : ℝ) - ((((Hat.upper (r : EReal) - 1 : ℕ) : ℝ) / 20 : ℝ) : EReal)) * _
    + Ideal.div ((r : EReal) - ((((Hat.upper (r : EReal) - 1 : ℕ) : ℝ) / 20 : ℝ) : EReal)) ((((Hat.upper (r : EReal) : ℕ) : ℝ) / 20 : ℝ) - ((((Hat.upper (r : EReal) - 1 : ℕ) : ℝ) / 20 : ℝ) : EReal)) * _ = _
  rw [qh, ql]

end Cert.ReferenceIdeal.HandRead

end
-- ==== Proof.Equation.lean ====
/- The equation: on numbers of the unit interval the kernel's result array and the reference's result are the same function. -/
module

public import proofs.«01_k».proof.Proof.KernelValue
public import proofs.«01_k».proof.Proof.RefValue
public import proofs.«01_k».proof.Proof.Gen.Pre_in_unit

@[expose] public section

set_option maxRecDepth 16384

noncomputable section

namespace Cert.HandEquation

open Idealize.ShloMosaic Idealize.ShloMosaic.TcCoe Idealize.SL.Sem

/-- Where the precondition is set the number is a real of the unit interval. -/
theorem real_of_pre (x : Vec Ideal Cert.Pre_in_unit.S4096x200 .f32) (e : Vec Ideal Cert.Pre_in_unit.S21x64 .f32) (n : Fin 4096) (s : Fin 200)
    (h : @Cert.Pre_in_unit.fn Cert.Pre_in_unit.Gen.facts Ideal _ x e (ix2 n s) = 1#1) : ∃ r : ℝ, x (ix2 n s) = (r : EReal) ∧ 0 ≤ r ∧ r ≤ 1 := by
  have q : IntOp.andi (Ideal.cmp .oge (x (ix2 n s)) (Ideal.ofBits .f32 0x00000000#32))
      (Ideal.cmp .ole (x (ix2 n s)) (Ideal.ofBits .f32 0x3F800000#32)) = 1#1 := h
  rw [Ideal.ofBits_zero_f32, Ideal.ofBits_one_f32] at q
  have b : (0 : EReal) ≤ x (ix2 n s) ∧ (x (ix2 n s) : EReal) ≤ 1 := by
    by_contra hc
    rw [not_and_or] at hc
    rcases hc with hc | hc <;> simp [Ideal.cmp, IntOp.andi, hc] at q
  have key : ∀ y : EReal, 0 ≤ y ∧ y ≤ 1 → ∃ r : ℝ, y = (r : EReal) ∧ 0 ≤ r ∧ r ≤ 1 := by
    intro y b
    induction y using EReal.rec with
    | bot => exact absurd b.1 (by simp)
    | top => exact absurd b.2 (by rw [top_le_iff]; exact EReal.coe_ne_top 1)
    | coe r => exact ⟨r, rfl, by exact_mod_cast b.1, by exact_mod_cast b.2⟩
  exact key _ b

/-- The two functions agree at every index. -/
theorem equal (m : (ℓ : Loc Cert.KernelIdeal.nD Cert.KernelIdeal.τ Cert.KernelIdeal.sig) → Buf (Elt Ideal) ℓ) (c : Dev Cert.KernelIdeal.nD)
    (h : @Cert.Pre_in_unit.fn Cert.Pre_in_unit.Gen.facts Ideal _ (Cert.KernelIdeal.HandValue.nums m c) (Cert.KernelIdeal.HandValue.emb m c) = fun _ => 1#1) :
    Cert.ReferenceIdeal.Read.val_main_v38 (F := Ideal) (Cert.KernelIdeal.HandValue.nums m c) (Cert.KernelIdeal.HandValue.emb m c)
      = Cert.KernelIdeal.HandValue.result m c := by
  refine funext fun (i : Cert.KernelIdeal.S4096x200x64.Idx) => ?_
  obtain ⟨n, s, d, rfl⟩ : ∃ n s d, i = ix3 n s d := ⟨i 0, i 1, i 2, funext fun a => by fin_cases a <;> rfl⟩
  obtain ⟨r, hx, h0, h1⟩ := real_of_pre _ _ n s (congrFun h (ix2 n s))
  obtain ⟨u1, u2⟩ := Hat.upper_bounds (r : EReal)
  rw [Cert.ReferenceIdeal.HandRead.out_apply _ _ n s d r hx]
  show _ = (∑ k : Fin 32, Hat.hat (Cert.KernelIdeal.HandValue.nums m c (ix2 n s)) k.val
    * Cert.KernelIdeal.HandValue.padded (Cert.KernelIdeal.HandValue.emb m c) d k.val : EReal)
  rw [hx, Hat.sum_hat r h0 h1]
  unfold Cert.KernelIdeal.HandValue.padded
  rw [dif_pos (by omega), dif_pos (by omega)]
  rfl

end Cert.HandEquation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_in_unit
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments unchanged, and ends with every counter at zero. -/
theorem reference_frame : @Cert.quiescent_ReferenceIdeal Cert.ReferenceIdeal.Gen.facts := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- On the unit interval the kernel and the reference end with equal results. -/
theorem value : @Cert.algebraic_KernelIdeal_ReferenceIdeal_pre_in_unit Cert.KernelIdeal.Gen.facts Cert.ReferenceIdeal.Gen.facts Cert.Pre_in_unit.Gen.facts := by
  intro m g m' g' pre same
  refine ⟨fun c => Cert.KernelIdeal.HandValue.result m c, Cert.KernelIdeal.HandValue.run m g, ?_⟩
  refine (θ_run (Cert.ReferenceIdeal.defs (F := Ideal)) _ _).mono (fun r h c => ⟨(h c).1.trans ?_, (h c).2⟩)
    (Cert.ReferenceIdeal.Value.run (F := Ideal) m' g')
  rw [Cert.ReferenceIdeal.Read.val_main_v38_eq]
  have s := same c
  rw [show m' ((c.tc : Thread Cert.ReferenceIdeal.nD Cert.ReferenceIdeal.τ).loc Cert.ReferenceIdeal.main_arg0) = _ from s.1,
    show m' ((c.tc : Thread Cert.ReferenceIdeal.nD Cert.ReferenceIdeal.τ).loc Cert.ReferenceIdeal.main_arg1) = _ from s.2]
  exact Cert.HandEquation.equal m c (pre c)

/-- Every claim of the certificate. -/
theorem claim : Cert.Claim :=
  ⟨Cert.Kernel.Gen.facts, Cert.KernelIdeal.Gen.facts, Cert.ReferenceIdeal.Gen.facts, Cert.Pre_in_unit.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value⟩

end Cert.Proof

end
